-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_words_of_two_finite [hPre_words_of_two_finite : Cert.Pre_words_of_two_finite.Facts] (m : (ℓ : Loc Cert.KernelIdeal.nD Cert.KernelIdeal.τ Cert.KernelIdeal.sig) → Buf (Elt Ideal) ℓ) : Prop :=
  ∀ c : Dev Cert.KernelIdeal.nD,
    (Cert.Pre_words_of_two_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_words_of_two_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_words_of_two_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_of_two_finite [hPre_words_of_two_finite : Cert.Pre_words_of_two_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_of_two_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_words_of_two_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_words_of_two_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_words_of_two_finite [hKernelIdeal : Cert.KernelIdeal.Facts] [hPre_words_of_two_finite : Cert.Pre_words_of_two_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_words_of_two_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_words_of_two_finite [hReferenceIdeal : Cert.ReferenceIdeal.Facts] [hPre_words_of_two_finite : Cert.Pre_words_of_two_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_of_two_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_words_of_two_finite [hKernelIdeal : Cert.KernelIdeal.Facts] [hReferenceIdeal : Cert.ReferenceIdeal.Facts] [hPre_words_of_two_finite : Cert.Pre_words_of_two_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_words_of_two_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_words_of_two_finite : Cert.Pre_words_of_two_finite.Facts),
    quiescent_Kernel (hKernel := hKernel)
    ∧ quiescent_KernelIdeal (hKernelIdeal := hKernelIdeal)
    ∧ quiescent_KernelIdeal_pre_words_of_two_finite (hKernelIdeal := hKernelIdeal) (hPre_words_of_two_finite := hPre_words_of_two_finite)
    ∧ quiescent_ReferenceIdeal (hReferenceIdeal := hReferenceIdeal)
    ∧ quiescent_ReferenceIdeal_pre_words_of_two_finite (hReferenceIdeal := hReferenceIdeal) (hPre_words_of_two_finite := hPre_words_of_two_finite)
    ∧ preserves_Kernel_KernelIdeal
    ∧ algebraic_KernelIdeal_ReferenceIdeal_pre_words_of_two_finite (hKernelIdeal := hKernelIdeal) (hReferenceIdeal := hReferenceIdeal) (hPre_words_of_two_finite := hPre_words_of_two_finite)
-- ==== Pre_words_of_two_finite.lean ====
abbrev S8x4096x768 : Shape := ⟨3, ![8, 4096, 768]⟩
abbrev S768x9 : Shape := ⟨2, ![768, 9]⟩
abbrev S9 : Shape := ⟨1, ![9]⟩
abbrev S8x4096 : Shape := ⟨2, ![8, 4096]⟩
abbrev S_ : Shape := ⟨0, ![]⟩

class Facts : Prop where
  bcast_S_S8x4096 : S_.BroadcastsInDim S8x4096 (![] : Fin 0 → Fin S8x4096.rank)
  bcast_S_S8x4096x768 : S_.BroadcastsInDim S8x4096x768 (![] : Fin 0 → Fin S8x4096x768.rank)
  bcast_S_S768x9 : S_.BroadcastsInDim S768x9 (![] : Fin 0 → Fin S768x9.rank)

variable [Facts]

def fn {F : FTy → Type} [FloatOps F] (main_arg0 : FVec F S8x4096x768 .f32) (main_arg1 : FVec F S768x9 .f32) (main_arg2 : FVec F S9 .f32) (main_arg3 : IVec S8x4096 32) : IVec S8x4096 1 × IVec S8x4096x768 1 × IVec S768x9 1 :=
  let main_v0 : IVec S8x4096 32 := iotaInDim S8x4096 32 1
  let main_c : IVec S_ 32 := constantI S_ 32 1#32
  let main_v1 : IVec S8x4096 32 := broadcastInDim S8x4096 ![] bcast_S_S8x4096 main_c
  let main_v2 : IVec S8x4096 32 := andi main_v0 main_v1
  let main_c_0 : IVec S_ 32 := constantI S_ 32 2#32
  let main_v3 : IVec S8x4096 32 := broadcastInDim S8x4096 ![] bcast_S_S8x4096 main_c_0
  let main_v4 : IVec S8x4096 32 := addi main_v3 main_v2
  let main_v5 : IVec S8x4096 1 := cmpi .eq main_arg3 main_v4
  let main_v6 : FVec F S8x4096x768 .f32 := Host.absf main_arg0
  let main_cst : FVec F S_ .f32 := constant S_ .f32 0x7F800000#32
  let main_v7 : FVec F S8x4096x768 .f32 := broadcastInDim S8x4096x768 ![] bcast_S_S8x4096x768 main_cst
  let main_v8 : IVec S8x4096x768 1 := cmpf .olt main_v6 main_v7
  let main_v9 : FVec F S768x9 .f32 := Host.absf main_arg1
  let main_cst_1 : FVec F S_ .f32 := constant S_ .f32 0x7F800000#32
  let main_v10 : FVec F S768x9 .f32 := broadcastInDim S768x9 ![] bcast_S_S768x9 main_cst_1
  let main_v11 : IVec S768x9 1 := cmpf .olt main_v9 main_v10
  (main_v5, main_v8, main_v11)
-- ==== Kernel.lean ====
abbrev S8x4096x768 : Shape := ⟨3, ![8, 4096, 768]⟩
abbrev S768x9 : Shape := ⟨2, ![768, 9]⟩
abbrev S9 : Shape := ⟨1, ![9]⟩
abbrev S8x4096 : Shape := ⟨2, ![8, 4096]⟩
abbrev S32768x768 : Shape := ⟨2, ![32768, 768]⟩
abbrev S9x768 : Shape := ⟨2, ![9, 768]⟩
abbrev S1x9 : Shape := ⟨2, ![1, 9]⟩
abbrev S9x16384 : Shape := ⟨2, ![9, 16384]⟩
abbrev S4096x768 : Shape := ⟨2, ![4096, 768]⟩
abbrev S9x2048 : Shape := ⟨2, ![9, 2048]⟩
abbrev S2048x2x9 : Shape := ⟨3, ![2048, 2, 9]⟩
abbrev S4096x9 : Shape := ⟨2, ![4096, 9]⟩
abbrev S2048x1x9 : Shape := ⟨3, ![2048, 1, 9]⟩
abbrev S2048x9 : Shape := ⟨2, ![2048, 9]⟩
abbrev S16384x9 : Shape := ⟨2, ![16384, 9]⟩

abbrev nBuf : Space → Nat
  | .hbm => 9
  | .vmem => 7
  | .smem => 0
  | _ => 0

abbrev bufTy : (tb : Table) → Fin (tcTables nBuf tb) → BufTy
  | .hbm, ⟨0, _⟩ => ⟨S8x4096x768, .f32⟩
  | .hbm, ⟨1, _⟩ => ⟨S768x9, .f32⟩
  | .hbm, ⟨2, _⟩ => ⟨S9, .f32⟩
  | .hbm, ⟨3, _⟩ => ⟨S8x4096, .i32⟩
  | .hbm, ⟨4, _⟩ => ⟨S32768x768, .f32⟩
  | .hbm, ⟨5, _⟩ => ⟨S9x768, .f32⟩
  | .hbm, ⟨6, _⟩ => ⟨S1x9, .f32⟩
  | .hbm, ⟨7, _⟩ => ⟨S9x16384, .f32⟩
  | .hbm, ⟨8, _⟩ => ⟨S16384x9, .f32⟩
  | .local _ .vmem, ⟨0, _⟩ => ⟨S4096x768, .f32⟩
  | .local _ .vmem, ⟨1, _⟩ => ⟨S4096x768, .f32⟩
  | .local _ .vmem, ⟨2, _⟩ => ⟨S9x768, .f32⟩
  | .local _ .vmem, ⟨3, _⟩ => ⟨S1x9, .f32⟩
  | .local _ .vmem, ⟨4, _⟩ => ⟨S9x2048, .f32⟩
  | .local _ .vmem, ⟨5, _⟩ => ⟨S9x2048, .f32⟩
  | .local _ .vmem, ⟨6, _⟩ => ⟨S2048x2x9, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S9x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x4096x768 : Shape := ⟨3, ![8, 4096, 768]⟩
abbrev S768x9 : Shape := ⟨2, ![768, 9]⟩
abbrev S9 : Shape := ⟨1, ![9]⟩
abbrev S8x4096 : Shape := ⟨2, ![8, 4096]⟩
abbrev S_ : Shape := ⟨0, ![]⟩
abbrev S8 : Shape := ⟨1, ![8]⟩
abbrev S1 : Shape := ⟨1, ![1]⟩
abbrev S7 : Shape := ⟨1, ![7]⟩
abbrev S8x1 : Shape := ⟨2, ![8, 1]⟩
abbrev S32768x768 : Shape := ⟨2, ![32768, 768]⟩
abbrev S32768 : Shape := ⟨1, ![32768]⟩
abbrev S16385x768 : Shape := ⟨2, ![16385, 768]⟩
abbrev S32768x1 : Shape := ⟨2, ![32768, 1]⟩
abbrev S16384x768 : Shape := ⟨2, ![16384, 768]⟩
abbrev S16384x9 : Shape := ⟨2, ![16384, 9]⟩
abbrev S1x9 : Shape := ⟨2, ![1, 9]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S768x9, .f32⟩
  | .hbm, ⟨2, _⟩ => ⟨S9, .f32⟩
  | .hbm, ⟨3, _⟩ => ⟨S8x4096, .i32⟩
  | .hbm, ⟨4, _⟩ => ⟨S_, .i32⟩
  | .hbm, ⟨5, _⟩ => ⟨S8x4096, .i32⟩
  | .hbm, ⟨6, _⟩ => ⟨S8x4096, .i1⟩
  | .hbm, ⟨7, _⟩ => ⟨S_, .i32⟩
  | .hbm, ⟨8, _⟩ => ⟨S8x4096, .i32⟩
  | .hbm, ⟨9, _⟩ => ⟨S8x4096, .i1⟩
  | .hbm, ⟨10, _⟩ => ⟨S8x4096, .i1⟩
  | .hbm, ⟨11, _⟩ => ⟨S8x4096, .i32⟩
  | .hbm, ⟨12, _⟩ => ⟨S_, .i32⟩
  | .hbm, ⟨13, _⟩ => ⟨S_, .i32⟩
  | .hbm, ⟨14, _⟩ => ⟨S8x4096, .i32⟩
  | .hbm, ⟨15, _⟩ => ⟨S_, .i32⟩
  | .hbm, ⟨16, _⟩ => ⟨S8x4096, .i32⟩
  | .hbm, ⟨17, _⟩ => ⟨S8x4096, .i32⟩
  | .hbm, ⟨18, _⟩ => ⟨S8x4096, .i32⟩
  | .hbm, ⟨19, _⟩ => ⟨S_, .i32⟩
  | .hbm, ⟨20, _⟩ => ⟨S8, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S8, .i32⟩
  | .hbm, ⟨26, _⟩ => ⟨S7, .i32⟩
  | .hbm, ⟨27, _⟩ => ⟨S8, .i32⟩
  | .hbm, ⟨28, _⟩ => ⟨S8x1, .i32⟩
  | .hbm, ⟨29, _⟩ => ⟨S8x4096, .i32⟩
  | .hbm, ⟨30, _⟩ => ⟨S8x4096, .i32⟩
  | .hbm, ⟨31, _⟩ => ⟨S_, .i32⟩
  | .hbm, ⟨32, _⟩ => ⟨S_, .i32⟩
  | .hbm, ⟨33, _⟩ => ⟨S8x4096, .i32⟩
  | .hbm, ⟨34, _⟩ => ⟨S8x4096, .i32⟩
  | .hbm, ⟨35, _⟩ => ⟨S32768x768, .f32⟩
  | .hbm, ⟨36, _⟩ => ⟨S32768, .i32⟩
  | .hbm, ⟨37, _⟩ => ⟨S_, .f32⟩
  | .hbm, ⟨38, _⟩ => ⟨S16385x768, .f32⟩
  | .hbm, ⟨39, _⟩ => ⟨S32768x1, .i32⟩
  | .hbm, ⟨40, _⟩ => ⟨S16385x768, .f32⟩
  | .hbm, ⟨41, _⟩ => ⟨S16384x768, .f32⟩
  | .hbm, ⟨42, _⟩ => ⟨S16384x9, .f32⟩
  | .hbm, ⟨43, _⟩ => ⟨S1x9, .f32⟩
  | .hbm, ⟨44, _⟩ => ⟨S16384x9, .f32⟩
  | .hbm, ⟨45, _⟩ => ⟨S16384x9, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_call0_c : Ref sig .tc := ⟨.hbm, 12, rfl⟩
abbrev main_call0_call0_v0 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_call1_call0_c : Ref sig .tc := ⟨.hbm, 23, rfl⟩
abbrev main_call1_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_call2_v0 : Ref sig .tc := ⟨.hbm, 32, rfl⟩
abbrev main_call2_v1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Proof.BlockValue.lean ====
/- What one grid point of the word-classification kernel writes, element by element, at the extended reals.

   The body multiplies its 4096 tokens by the nine weight columns, lays the product out as 2048 pairs of rows, adds the
   two rows of each pair, adds the bias and stores the transpose. So the element of the output block at label `n` and
   word `l` is the score of token `2 l`, plus the score of token `2 l + 1`, plus the bias of label `n`. -/
module

public import proofs.«01_k».proof.Proof.Gen.KernelIdeal.Frame
public import Idealize.ShloMosaic.Lib.Pipeline.Value
public import Idealize.ShloMosaic.Lib.ValueIdx
public import Idealize.ShloMosaic.PureOps.Ideal.Laws

@[expose] public section

set_option maxRecDepth 16384

noncomputable section

namespace Cert.Proof.Block

open Cert.KernelIdeal Cert.KernelIdeal.Gen
open Idealize.ShloMosaic Idealize.ShloMosaic.TcCoe Idealize.ShloMosaic.ValueIdx Idealize.ShloMosaic.Tactic Idealize.SL.Sem

/-- The score of one token of a block for one label: the sum over the hidden coordinates of the token's coordinate times
    the label's weight, the weights held one row per label. -/
def score (x : Vec Ideal S4096x768 .f32) (w : Vec Ideal S9x768 .f32) (t : Fin 4096) (n : Fin 9) : EReal :=
  ∑ k : Fin 768, x (ix2 t k) * w (ix2 n k)

/-! ## The product, as the body stores it: pairs of rows -/

/-- The contraction of the body, read at a token and a label, is the token's score. -/
theorem matmul_score (x : FVec Ideal S4096x768 .f32) (w : FVec Ideal S9x768 .f32) (t : Fin 4096) (n : Fin 9) :
    (matmul dot_S4096x768_S9x768_S4096x9_1_1_0_0_n_n none x w (constant S4096x9 .f32 0x00000000#32) : FVec Ideal S4096x9 .f32)
      (ix2 t n) = score x w t n := by
  show FloatOps.matmul dot_S4096x768_S9x768_S4096x9_1_1_0_0_n_n none x w (constant S4096x9 .f32 0x00000000#32) (ix2 t n) = _
  rw [Ideal.matmul_constant_zero_apply]
  unfold score
  rw [← Equiv.sum_comp (contrEquiv1 dot_S4096x768_S9x768_S4096x9_1_1_0_0_n_n 768 rfl rfl).symm]
  refine Finset.sum_congr rfl fun k _ => ?_
  have hk := contrEquiv1_symm_val dot_S4096x768_S9x768_S4096x9_1_1_0_0_n_n 768 rfl rfl k
  generalize (contrEquiv1 dot_S4096x768_S9x768_S4096x9_1_1_0_0_n_n 768 rfl rfl).symm k = q at hk
  have el : dot_S4096x768_S9x768_S4096x9_1_1_0_0_n_n.lhsIdx (ix2 t n) q = ix2 t k := funext fun a => Fin.ext (by
    match a with
    | ⟨0, _⟩ =>
      show (dot_S4096x768_S9x768_S4096x9_1_1_0_0_n_n.lhsIdx (ix2 t n) q 0).val = t.val
      unfold DotDims.lhsIdx
      rw [dif_neg (show ¬(0 : Fin S4096x768.rank) ∈ dot_S4096x768_S9x768_S4096x9_1_1_0_0_n_n.lhsBatch by decide),
        dif_pos (show (0 : Fin S4096x768.rank) ∈ dot_S4096x768_S9x768_S4096x9_1_1_0_0_n_n.lhsNonContracting by decide)]
      rfl
    | ⟨1, _⟩ => exact (dot_S4096x768_S9x768_S4096x9_1_1_0_0_n_n.lhsIdx_val_of_single rfl (ix2 t n) q).trans hk)
  have er : dot_S4096x768_S9x768_S4096x9_1_1_0_0_n_n.rhsIdx (ix2 t n) q = ix2 n k := funext fun a => Fin.ext (by
    match a with
    | ⟨0, _⟩ =>
      show (dot_S4096x768_S9x768_S4096x9_1_1_0_0_n_n.rhsIdx (ix2 t n) q 0).val = n.val
      unfold DotDims.rhsIdx
      rw [dif_neg (show ¬(0 : Fin S9x768.rank) ∈ dot_S4096x768_S9x768_S4096x9_1_1_0_0_n_n.rhsBatch by decide),
        dif_pos (show (0 : Fin S9x768.rank) ∈ dot_S4096x768_S9x768_S4096x9_1_1_0_0_n_n.rhsNonContracting by decide)]
      rfl
    | ⟨1, _⟩ => exact (dot_S4096x768_S9x768_S4096x9_1_1_0_0_n_n.rhsIdx_val_of_single rfl (ix2 t n) q).trans hk)
  rw [el, er]

/-- What the body stores in its scratch, at pair `l`, half `p` and label `n`: the score of token `2 l + p`. -/
theorem pairs_apply (x : Vec Ideal S4096x768 .f32) (w : Vec Ideal S9x768 .f32) (l : Fin 2048) (p : Fin 2) (n : Fin 9) :
    (k0_pay1 x w : FVec Ideal S2048x2x9 .f32) (ix3 l p n) = score x w ⟨2 * l.val + p.val, by omega⟩ n := by
  unfold k0_pay1
  rw [shapeCast_self, shapeCast_self, shapeCast_self,
    shapeCast_apply _ shapeCasts_S4096x9_S2048x2x9 (ix3 l p n) (ix2 ⟨2 * l.val + p.val, by omega⟩ n) (by
      rewrite [Shape.rowMajor_val_three, Shape.rowMajor_val_two]
      show (2 * l.val + p.val) * 9 + n.val = (l.val * 2 + p.val) * 9 + n.val
      omega)]
  exact matmul_score x w _ n

/-! ## The sum of the two halves, the bias, the transpose -/

/-- What the body stores in the output block, at label `n` and word `l`: the two halves' values there and the bias. -/
theorem combine_apply (u v : Vec Ideal S2048x1x9 .f32) (b : Vec Ideal S1x9 .f32) (n : Fin 9) (l : Fin 2048) :
    (k0_pay2 u v b : FVec Ideal S9x2048 .f32) (ix2 n l)
      = u (ix3 l 0 n) + v (ix3 l 0 n) + b (ix2 0 n) := by
  have cast (y : Vec Ideal S2048x1x9 .f32) :
      (shapeCast S2048x9 y shapeCasts_S2048x1x9_S2048x9 : FVec Ideal S2048x9 .f32) (ix2 l n) = y (ix3 l 0 n) :=
    shapeCast_apply y shapeCasts_S2048x1x9_S2048x9 (ix2 l n) (ix3 l 0 n) (by
      rewrite [Shape.rowMajor_val_three, Shape.rowMajor_val_two]
      show (l.val * 1 + 0) * 9 + n.val = l.val * 9 + n.val
      omega)
  unfold k0_pay2
  rw [transpose_apply [1, 0] _ transposes_S2048x9_p1_0_S9x2048 (ix2 n l) (ix2 l n) (fun a => by
      match a with
      | ⟨0, _⟩ => rfl
      | ⟨1, _⟩ => rfl),
    addf_apply, addf_apply, cast, cast, shapeCast_self,
    broadcastTo_apply b broadcasts_S1x9_S2048x9 (ix2 l n) (ix2 0 n) (fun a => by
      match a with
      | ⟨0, _⟩ => rfl
      | ⟨1, _⟩ => rfl)]

/-! ## The block -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- One stored value read back through a rectangle is that value at the rectangle's indices: the store went through the
    whole scratch. -/
theorem scratch_read (y : Vec Ideal S2048x2x9 .f32) (r : Rect S2048x2x9) :
    (View.whole cc0_scratch0).readCov
        [(⟨Rect.unit ![0, 0, 0] ![2048, 2, 9] inb_S2048x2x9_S2048x2x9_0_0_0, y⟩ : View.Piece (Elt Ideal) S2048x2x9 .f32)] r.toLoadRect
      = View.ld y r := by
  rw [View.readCov_eq_canon_ld _ _ _ (fun i => ⟨_, List.mem_singleton_self _, by
    rw [Rect.mem_set_unit]
    intro a
    match a with
    | ⟨0, _⟩ => exact ⟨Nat.zero_le _, by have h := (i 0).isLt; show (i 0).val < 0 + 2048; exact lt_of_lt_of_eq h (Nat.zero_add _).symm⟩
    | ⟨1, _⟩ => exact ⟨Nat.zero_le _, by have h := (i 1).isLt; show (i 1).val < 0 + 2; exact lt_of_lt_of_eq h (Nat.zero_add _).symm⟩
    | ⟨2, _⟩ => exact ⟨Nat.zero_le _, by have h := (i 2).isLt; show (i 2).val < 0 + 9; exact lt_of_lt_of_eq h (Nat.zero_add _).symm⟩⟩)]
  exact congrArg (View.ld · r) (View.canon_unit_zero zeros3 _ y)

/-- One half of the stored pairs: the rows of the tokens at place `p` of their pair, for every pair. -/
def half (y : Vec Ideal S2048x2x9 .f32) (p : Nat)
    (inb : ∀ a, (![0, p, 0] : Fin 3 → Nat) a + (![2048, 1, 9] : Fin 3 → Nat) a ≤ S2048x2x9.size a) : Vec Ideal S2048x1x9 .f32 :=
  View.ld y (Rect.unit ![0, p, 0] ![2048, 1, 9] inb)

theorem half_apply (y : Vec Ideal S2048x2x9 .f32) (p : Nat) (hp : p < 2)
    (inb : ∀ a, (![0, p, 0] : Fin 3 → Nat) a + (![2048, 1, 9] : Fin 3 → Nat) a ≤ S2048x2x9.size a) (l : Fin 2048) (n : Fin 9) :
    half y p inb (ix3 l 0 n) = y (ix3 l ⟨p, hp⟩ n) :=
  congrArg y (funext fun a => Fin.ext (by
    match a with
    | ⟨0, _⟩ => show 0 + 1 * l.val = l.val; omega
    | ⟨1, _⟩ => show p + 1 * 0 = p; omega
    | ⟨2, _⟩ => show 0 + 1 * n.val = n.val; omega))

variable (m : (ℓ : Loc nD τ sig) → Buf (Elt Ideal) ℓ)

/-- The output block after a grid point, as the body computes it from the point's three input blocks. -/
theorem outsAt0_eq (c : Dev nD) (t : Fin cfg0.N) :
    outsAt0 m c t = k0_pay2
      (half (k0_pay1 (iblk m c 0 t) (iblk m c 1 t)) 0 inb_S2048x2x9_S2048x1x9_0_0_0)
      (half (k0_pay1 (iblk m c 0 t) (iblk m c 1 t)) 1 inb_S2048x2x9_S2048x1x9_0_1_0)
      (iblk m c 2 t) := by
  unfold outsAt0 out0_A_3
  rw [View.read_writes_eq_canon _ _ _ (cover0_A_3 c _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero zeros2, scratch_read, scratch_read, View.ld_unit_zero (S := S4096x768) zeros2,
    View.ld_unit_zero (S := S9x768) zeros2, View.ld_unit_zero (S := S1x9) zeros2]
  rfl

/-- The output block after a grid point, at label `n` and word `l`: the scores of the word's two tokens and the bias. -/
theorem outsAt0_apply (c : Dev nD) (t : Fin cfg0.N) (n : Fin 9) (l : Fin 2048) :
    outsAt0 m c t (ix2 n l)
      = score (iblk m c 0 t) (iblk m c 1 t) ⟨2 * l.val, by omega⟩ n
        + score (iblk m c 0 t) (iblk m c 1 t) ⟨2 * l.val + 1, by omega⟩ n
        + iblk m c 2 t (ix2 0 n) := by
  rw [outsAt0_eq, combine_apply, half_apply _ 0 (by omega), half_apply _ 1 (by omega), pairs_apply, pairs_apply]
  rfl

end Cert.Proof.Block

end
-- ==== Proof.Words.lean ====
/- The function both programs compute, in two spellings, and the equation between them.

   A word is two consecutive tokens. The kernel scores each token for a label and adds the two scores; the reference adds
   the two tokens and scores the sum. The two agree where the tokens and the weights are real numbers: on the extended
   reals multiplication does not distribute over a sum of opposite infinities. The bias is added last by both. -/
module

public import Idealize.ShloMosaic.Lib.ValueIdx
public import Idealize.ShloMosaic.PureOps.Ideal.Laws

@[expose] public section

noncomputable section

namespace Cert.Proof.Words

open Idealize.ShloMosaic Idealize.ShloMosaic.ValueIdx

variable (x : FVec Ideal ⟨3, ![8, 4096, 768]⟩ .f32) (w : FVec Ideal ⟨2, ![768, 9]⟩ .f32) (b : FVec Ideal ⟨1, ![9]⟩ .f32)

/-- Hidden coordinate `k` of token `t` of the whole batch: token `t % 4096` of sequence `t / 4096`. -/
def token (t : Fin 32768) (k : Fin 768) : EReal :=
  x (ix3 ⟨t.val / 4096, by omega⟩ ⟨t.val % 4096, by omega⟩ k)

/-- The first token of a word. -/
abbrev first (u : Fin 16384) : Fin 32768 := ⟨2 * u.val, by omega⟩
/-- The second token of a word. -/
abbrev second (u : Fin 16384) : Fin 32768 := ⟨2 * u.val + 1, by omega⟩

/-- The score of a token of the batch for a label. -/
def tokenScore (t : Fin 32768) (n : Fin 9) : EReal :=
  ∑ k : Fin 768, token x t k * w (ix2 k n)

/-- The value of one word for one label, as the kernel adds it up: the scores of the word's two tokens and the bias. -/
def wordValue (u : Fin 16384) (n : Fin 9) : EReal :=
  tokenScore x w (first u) n + tokenScore x w (second u) n + b (ix1 n)

/-- The value of one word for one label, as the reference adds it up: the score of the sum of the word's two tokens, and the
    bias. -/
def sumValue (u : Fin 16384) (n : Fin 9) : EReal :=
  (∑ k : Fin 768, (token x (first u) k + token x (second u) k) * w (ix2 k n)) + b (ix1 n)

/-- The kernel's result: words by labels. -/
def result : FVec Ideal ⟨2, ![16384, 9]⟩ .f32 :=
  fun i => wordValue x w b (i 0) (i 1)

/-- Among real numbers, multiplication on the right distributes over a sum of two. -/
theorem add_mul_of_real (p q r : EReal) (hp : ∃ a : ℝ, p = a) (hq : ∃ a : ℝ, q = a) (hr : ∃ a : ℝ, r = a) :
    (p + q) * r = p * r + q * r := by
  obtain ⟨p, rfl⟩ := hp
  obtain ⟨q, rfl⟩ := hq
  obtain ⟨r, rfl⟩ := hr
  exact_mod_cast congrArg Real.toEReal (add_mul p q r)

/-- The equation: with every token and every weight real, scoring the sum of a word's tokens is adding their scores. -/
theorem sumValue_eq (hx : ∀ i, ∃ r : ℝ, (x i : EReal) = r) (hw : ∀ i, ∃ r : ℝ, (w i : EReal) = r) (u : Fin 16384) (n : Fin 9) :
    sumValue x w b u n = wordValue x w b u n := by
  unfold sumValue wordValue tokenScore
  rw [← Finset.sum_add_distrib]
  refine congrArg (· + (b (ix1 n) : EReal)) (Finset.sum_congr rfl fun k _ => ?_)
  exact add_mul_of_real _ _ _ (hx _) (hx _) (hw _)

end Cert.Proof.Words

end
-- ==== Proof.KernelValue.lean ====
/- The word-classification kernel's result array after a run, element by element, at the extended reals.

   The host lines before the pipelined region lay the tokens out as 32768 rows, transpose the weights and give the bias a
   unit axis. The region's eight points cover the [9, 16384] array between them, each with the block Proof/BlockValue.lean
   computes. The host line after it transposes that array. So the result at word `w` and label `n` is the score of token
   `2 w`, plus the score of token `2 w + 1`, plus the bias of label `n`. -/
module

public import proofs.«01_k».proof.Proof.BlockValue
public import proofs.«01_k».proof.Proof.Words

@[expose] public section

set_option maxRecDepth 16384

noncomputable section

namespace Cert.Proof.KernelValue

open Cert.KernelIdeal Cert.KernelIdeal.Gen Cert.Proof.Words
open Idealize.ShloMosaic Idealize.ShloMosaic.TcCoe Idealize.ShloMosaic.ValueIdx Idealize.ShloMosaic.Tactic Idealize.SL.Sem
open Idealize.ShloMosaic.Pipeline (Dat)

/-! ## The array the region fills -/

/-- The array the region fills: labels by words. -/
def byLabel (x : FVec Ideal S8x4096x768 .f32) (w : FVec Ideal S768x9 .f32) (b : FVec Ideal S9 .f32) : FVec Ideal S9x16384 .f32 :=
  fun i => wordValue x w b (i 1) (i 0)

variable (m : (ℓ : Loc nD τ sig) → Buf (Elt Ideal) ℓ) (ρ : Dev nD → PrngReg)

/-! ## The arrays the region finds -/

/-- The first window's array is the tokens laid out as rows. -/
theorem V_tokens (c : Dev nD) (t : Fin 32768) (k : Fin 768) :
    (V m c main_v0 : FVec Ideal S32768x768 .f32) (ix2 t k) = token (m ((c : Thread nD τ).loc main_arg0)) t k := by
  have e : (V m c main_v0 : FVec Ideal S32768x768 .f32)
      = shapeCast S32768x768 (m ((c : Thread nD τ).loc main_arg0) : FVec Ideal S8x4096x768 .f32) shapeCasts_S8x4096x768_S32768x768 := by
    show StableHlo.after hostOps0 _ (Proc.devRef .tc main_v0) = _
    after_results
    rfl
  rw [e, shapeCast_apply _ shapeCasts_S8x4096x768_S32768x768 (ix2 t k) (ix3 ⟨t.val / 4096, by omega⟩ ⟨t.val % 4096, by omega⟩ k) (by
      rewrite [Shape.rowMajor_val_three, Shape.rowMajor_val_two]
      show (t.val / 4096 * 4096 + t.val % 4096) * 768 + k.val = t.val * 768 + k.val
      omega)]
  rfl

/-- The second window's array is the weights, one row per label. -/
theorem V_weights (c : Dev nD) (n : Fin 9) (k : Fin 768) :
    (V m c main_v1 : FVec Ideal S9x768 .f32) (ix2 n k) = (m ((c : Thread nD τ).loc main_arg1) : FVec Ideal S768x9 .f32) (ix2 k n) := by
  have e : (V m c main_v1 : FVec Ideal S9x768 .f32)
      = transpose S9x768 [1, 0] (m ((c : Thread nD τ).loc main_arg1) : FVec Ideal S768x9 .f32) transposes_S768x9_S9x768_1_0 := by
    show StableHlo.after hostOps0 _ (Proc.devRef .tc main_v1) = _
    after_results
  rw [e, transpose_apply [1, 0] _ transposes_S768x9_S9x768_1_0 (ix2 n k) (ix2 k n) (fun a => by
      match a with
      | ⟨0, _⟩ => rfl
      | ⟨1, _⟩ => rfl)]

/-- The third window's array is the bias as one row. -/
theorem V_bias (c : Dev nD) (n : Fin 9) :
    (V m c main_v2 : FVec Ideal S1x9 .f32) (ix2 0 n) = (m ((c : Thread nD τ).loc main_arg2) : FVec Ideal S9 .f32) (ix1 n) := by
  have e : (V m c main_v2 : FVec Ideal S1x9 .f32)
      = shapeCast S1x9 (m ((c : Thread nD τ).loc main_arg2) : FVec Ideal S9 .f32) shapeCasts_S9_S1x9 := by
    show StableHlo.after hostOps0 _ (Proc.devRef .tc main_v2) = _
    after_results
    rfl
  rw [e, shapeCast_apply _ shapeCasts_S9_S1x9 (ix2 0 n) (ix1 n) (by
      rewrite [Shape.rowMajor_val_one, Shape.rowMajor_val_two]
      show n.val = 0 * 9 + n.val
      omega)]

/-! ## The blocks a point works on -/

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = t.val := by decide +kernel

theorem point_lt (t : Fin cfg0.N) : t.val < 8 := lt_of_lt_of_eq t.isLt N_0

/-- Point `t`'s tokens are the rows from `4096 t` on. -/
theorem block_tokens (c : Dev nD) (t : Fin cfg0.N) (r : Fin 4096) (k : Fin 768) :
    (iblk m c 0 t : FVec Ideal S4096x768 .f32) (ix2 r k)
      = token (m ((c : Thread nD τ).loc main_arg0)) ⟨t.val * 4096 + r.val, by have := point_lt t; omega⟩ k := by
  rw [← V_tokens]
  refine congrArg (V m c main_v0 : FVec Ideal S32768x768 .f32) (funext fun a => Fin.ext ?_)
  have h := index0 t
  match a with
  | ⟨0, _⟩ => show win0_0.index t 0 * 4096 + 1 * r.val = t.val * 4096 + r.val; rw [h.1]; omega
  | ⟨1, _⟩ => show win0_0.index t 1 * 768 + 1 * k.val = k.val; rw [h.2]; omega

/-- Every point's weights are all the weights. -/
theorem block_weights (c : Dev nD) (t : Fin cfg0.N) (n : Fin 9) (k : Fin 768) :
    (iblk m c 1 t : FVec Ideal S9x768 .f32) (ix2 n k) = (m ((c : Thread nD τ).loc main_arg1) : FVec Ideal S768x9 .f32) (ix2 k n) := by
  refine Eq.trans ?_ (V_weights m c n k)
  refine congrArg (V m c main_v1 : FVec Ideal S9x768 .f32) (funext fun a => Fin.ext ?_)
  have h := index1 t
  match a with
  | ⟨0, _⟩ => show win0_1.index t 0 * 9 + 1 * n.val = n.val; rw [h.1]; omega
  | ⟨1, _⟩ => show win0_1.index t 1 * 768 + 1 * k.val = k.val; rw [h.2]; omega

/-- Every point's bias is the whole bias. -/
theorem block_bias (c : Dev nD) (t : Fin cfg0.N) (n : Fin 9) :
    (iblk m c 2 t : FVec Ideal S1x9 .f32) (ix2 0 n) = (m ((c : Thread nD τ).loc main_arg2) : FVec Ideal S9 .f32) (ix1 n) := by
  refine Eq.trans ?_ (V_bias m c n)
  refine congrArg (V m c main_v2 : FVec Ideal S1x9 .f32) (funext fun a => Fin.ext ?_)
  have h := index2 t
  match a with
  | ⟨0, _⟩ => show win0_2.index t 0 * 1 + 1 * 0 = 0; rw [h.1]
  | ⟨1, _⟩ => show win0_2.index t 1 * 9 + 1 * n.val = n.val; rw [h.2]; omega

/-- A token's score within its block is its score within the batch. -/
theorem block_score (c : Dev nD) (t : Fin cfg0.N) (r : Fin 4096) (n : Fin 9) :
    Block.score (iblk m c 0 t) (iblk m c 1 t) r n
      = tokenScore (m ((c : Thread nD τ).loc main_arg0)) (m ((c : Thread nD τ).loc main_arg1))
          ⟨t.val * 4096 + r.val, by have := point_lt t; omega⟩ n :=
  Finset.sum_congr rfl fun k _ => congrArg₂ (· * ·) (block_tokens m c t r k) (block_weights m c t n k)

/-- What point `t` leaves at label `n` and word `l` of its block is the value of word `2048 t + l`. -/
theorem block_value (c : Dev nD) (t : Fin cfg0.N) (n : Fin 9) (l : Fin 2048) :
    outsAt0 m c t (ix2 n l)
      = wordValue (m ((c : Thread nD τ).loc main_arg0)) (m ((c : Thread nD τ).loc main_arg1)) (m ((c : Thread nD τ).loc main_arg2))
          ⟨t.val * 2048 + l.val, by have := point_lt t; omega⟩ n := by
  rw [Block.outsAt0_apply, block_score, block_score, block_bias]
  unfold wordValue
  have e0 : t.val * 4096 + 2 * l.val = 2 * (t.val * 2048 + l.val) := by omega
  have e1 : t.val * 4096 + (2 * l.val + 1) = 2 * (t.val * 2048 + l.val) + 1 := by omega
  simp only [e0, e1]

/-! ## The region's blocks together -/

/-- What point `t` writes back is its block of the words' values. -/
theorem flushed_eq (c : Dev nD) (t : Fin cfg0.N) :
    (dats m 0 c).flushed 3 t = (win0_3.blk t).view.read (Elt Ideal)
      (byLabel (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  refine funext fun (i : S9x2048.Idx) => ?_
  obtain ⟨n, l, rfl⟩ : ∃ (n : Fin 9) (l : Fin 2048), i = ix2 n l := ⟨i 0, i 1, eq_ix2 i⟩
  refine (block_value m c t n l).trans ?_
  have h := index3 t
  show _ = byLabel _ _ _ (((win0_3.blk t).view.emb) (ix2 n l))
  unfold byLabel
  refine congrArg₂ (wordValue _ _ _) (Fin.ext ?_) (Fin.ext ?_)
  · show t.val * 2048 + l.val = win0_3.index t 1 * 2048 + 1 * l.val
    rw [h.2]; omega
  · show n.val = win0_3.index t 0 * 9 + 1 * n.val
    rw [h.1]; omega

/-- An index of the array is in point `t`'s block when its word is one of the point's 2048. -/
theorem mem_blk (t : Fin cfg0.N) (i : S9x16384.Idx) :
    i ∈ ((cfg0.win 3).blk t).view.set ↔ t.val * 2048 ≤ (i 1).val ∧ (i 1).val < t.val * 2048 + 2048 := by
  show i ∈ ((View.whole main_v3).slice (win0_3.rect t)).set ↔ _
  rw [View.set_slice_whole, Rect.mem_set_unit]
  have h0 : (i 0).val < 9 := (i 0).isLt
  have hx := index3 t
  refine ⟨fun h => ?_, fun h a => ?_⟩
  · have := h 1
    replace this : win0_3.index t 1 * 2048 ≤ (i 1).val ∧ (i 1).val < win0_3.index t 1 * 2048 + 2048 := this
    rw [hx.2] at this; exact this
  · match a with
    | ⟨0, _⟩ => show win0_3.index t 0 * 9 ≤ (i 0).val ∧ (i 0).val < win0_3.index t 0 * 9 + 9
                rw [hx.1]; omega
    | ⟨1, _⟩ => show win0_3.index t 1 * 2048 ≤ (i 1).val ∧ (i 1).val < win0_3.index t 1 * 2048 + 2048
                rw [hx.2]; exact h

/-- The eight blocks cover the array. -/
theorem cover (i : S9x16384.Idx) : ∃ t : Fin cfg0.N, (cfg0.win 3).flush t = true ∧ i ∈ ((cfg0.win 3).blk t).view.set := by
  have h1 : (i 1).val < 16384 := (i 1).isLt
  have hN : cfg0.N = 8 := N_0
  refine ⟨⟨(i 1).val / 2048, by omega⟩, flush0_3 _, ?_⟩
  rw [mem_blk]
  dsimp only
  omega

/-- After the region the array holds every word's value for every label. -/
theorem filled (c : Dev nD) : (dats m 0 c).arrAt 3 cfg0.N
    = byLabel (m ((c : Thread nD τ).loc main_arg0)) (m ((c : Thread nD τ).loc main_arg1)) (m ((c : Thread nD τ).loc main_arg2)) :=
  (dats m 0 c).arrAt_eq_of_cover 3
    (byLabel (m ((c : Thread nD τ).loc main_arg0)) (m ((c : Thread nD τ).loc main_arg1)) (m ((c : Thread nD τ).loc main_arg2)))
    (fun t _ => flushed_eq m c t) cover

/-! ## The result -/

/-- The transpose of the filled array is the result. -/
theorem transpose_byLabel (x : FVec Ideal S8x4096x768 .f32) (w : FVec Ideal S768x9 .f32) (b : FVec Ideal S9 .f32) :
    transpose S16384x9 [1, 0] (byLabel x w b) transposes_S9x16384_S16384x9_1_0 = result x w b := by
  funext i
  rw [transpose_apply [1, 0] _ transposes_S9x16384_S16384x9_1_0 i (ix2 (i 1) (i 0)) (fun a => by
      match a with
      | ⟨0, _⟩ => rfl
      | ⟨1, _⟩ => rfl)]
  rfl

/-- What the line after the region leaves in the result buffer. -/
theorem tail_result (c : Dev nD) : Pipeline.afterTail₀ cfgs (dats m) 0 (V0 m) [hostOps1] c main_v4
    = result (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have e := Pipeline.withArrays_arr spec0 winFacts0.arr_inj c (V0 m c) (fun w => (dats m 0 c).arrAt w cfg0.N) 3
  refine Eq.trans (congrArg (fun y : FVec Ideal S9x16384 .f32 => transpose S16384x9 [1, 0] y transposes_S9x16384_S16384x9_1_0)
    (e.trans (filled m c))) ?_
  exact transpose_byLabel _ _ _

/-- Every run ends with the result buffer at the words' values and the arguments as they were. -/
theorem run : θ_run defs (onTc (τ := τ) (main (F := Ideal))) ⟨m, fun _ => 0, ρ⟩ (fun r => ∀ c : Dev nD,
      r.2.mem ((c.tc : Thread nD τ).loc main_v4)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).trans (tail_result m c), h.2 c⟩)
    (θ_run_and ((θ_run defs _ _).mono
      (fun _ h c => (h c).2 main_v4 (Pipeline.mem_restRefs_of main_v4 (by decide) (by decide))) (run_main m ρ)) (unchanged m ρ))

end Cert.Proof.KernelValue

end
-- ==== Proof.PreRead.lean ====
/- The precondition of the value claim, read at an index.

   `words_of_two_finite` asks three things of the arguments: the source index of a token is 2 at the even places of its
   sequence and 3 at the odd ones, so every word is two tokens; every coordinate of every token is finite; every weight is
   finite. Here each is stated of one element. -/
module

public import proofs.«01_k».proof.Proof.Gen.Pre_words_of_two_finite
public import Idealize.ShloMosaic.Lib.ValueIdx
public import Idealize.ShloMosaic.Lib.Pipeline.Value
public import Idealize.ShloMosaic.PureOps.Ideal.Laws

@[expose] public section

noncomputable section

namespace Cert.Proof.PreRead

open Cert.Pre_words_of_two_finite
open Idealize.ShloMosaic Idealize.ShloMosaic.ValueIdx

/-- The word 0x7F800000 is the top of the extended reals. -/
theorem ofBits_inf : (FloatOps.ofBits .f32 0x7F800000#32 : Ideal .f32) = (⊤ : EReal) := by
  show Ideal.ofBits .f32 0x7F800000#32 = ⊤
  simp [Ideal.ofBits, Ideal.ieee]

/-- A value whose magnitude compares below infinity is a real number. -/
theorem finite_of_cmp (y : Ideal .f32)
    (h : FloatOps.cmpf .olt (FloatOps.hostAbsf y) (FloatOps.ofBits .f32 0x7F800000#32 : Ideal .f32) = 1#1) : ∃ r : ℝ, (y : EReal) = r := by
  rw [ofBits_inf] at h
  have hc : Ideal.cmp .olt (max (y : EReal) (-(y : EReal))) ⊤ = 1#1 := h
  have hlt : max (y : EReal) (-(y : EReal)) < ⊤ := by
    by_contra hn
    simp [Ideal.cmp, hn] at hc
  rw [max_lt_iff] at hlt
  refine ⟨EReal.toReal y, (EReal.coe_toReal hlt.1.ne ?_).symm⟩
  intro hb
  have h2 := hlt.2
  rw [hb] at h2
  exact absurd h2 (by simp)

/-- Two words that compare equal are equal. -/
theorem eq_of_cmpi (a b : BitVec 32) (h : IntOp.cmpi .eq a b = 1#1) : a = b := by
  by_contra hn
  have : (a == b) = false := beq_eq_false_iff_ne.mpr hn
  simp [IntOp.cmpi, this] at h

/-- Adding two to the last bit of a place below 4096 gives the word of `2 + j % 2`. -/
theorem two_add_bit (j : Nat) (hj : j < 4096) :
    IntOp.addi 2#32 (IntOp.andi (BitVec.ofNat 32 j) 1#32) = BitVec.ofNat 32 (2 + j % 2) := by
  show 2#32 + (BitVec.ofNat 32 j &&& 1#32) = _
  apply BitVec.eq_of_toNat_eq
  rw [BitVec.toNat_add, BitVec.toNat_and, BitVec.toNat_ofNat, BitVec.toNat_ofNat, BitVec.toNat_ofNat, BitVec.toNat_ofNat,
    Nat.mod_eq_of_lt (by omega : 1 < 2 ^ 32), Nat.mod_eq_of_lt (by omega : j < 2 ^ 32), Nat.and_one_is_mod]

variable [Facts] (x : FVec Ideal S8x4096x768 .f32) (w : FVec Ideal S768x9 .f32) (b : FVec Ideal S9 .f32) (s : IVec S8x4096 32)

/-- The source index at place `j` of a sequence is `2 + j % 2`. -/
theorem source_index (h : (fn x w b s).1 = fun _ => 1#1) (r : Fin 8) (j : Fin 4096) : s (ix2 r j) = BitVec.ofNat 32 (2 + j.val % 2) := by
  have e := eq_of_cmpi _ _ (congrFun h (ix2 r j))
  rw [e]
  exact two_add_bit j.val j.isLt

/-- Every coordinate of every token is a real number. -/
theorem token_finite (h : (fn x w b s).2.1 = fun _ => 1#1) (i : S8x4096x768.Idx) : ∃ r : ℝ, (x i : EReal) = r :=
  finite_of_cmp (x i) (congrFun h i)

/-- Every weight is a real number. -/
theorem weight_finite (h : (fn x w b s).2.2 = fun _ => 1#1) (i : S768x9.Idx) : ∃ r : ℝ, (w i : EReal) = r :=
  finite_of_cmp (w i) (congrFun h i)

end Cert.Proof.PreRead

end
-- ==== Proof.SegIds.lean ====
/- Which word each token belongs to, as the reference computes it from the source indices.

   The reference marks the tokens that start a word (source index 2), numbers the words of each sequence by a running sum
   of the marks, adds the number of words in the sequences before, and sends a token that is in no word to a spare row.
   With source indices 2, 3, 2, 3, … in every sequence of 4096 tokens, each sequence has 2048 words, no token is in no word,
   and token `t` of the batch is in word `t / 2`. -/
module

public import proofs.«01_k».proof.Proof.Gen.ReferenceIdeal.Read
public import Idealize.ShloMosaic.Lib.Routing.Ops

@[expose] public section

noncomputable section

namespace Cert.Proof.SegIds

open Cert.ReferenceIdeal Cert.ReferenceIdeal.Gen Cert.ReferenceIdeal.Read
open Idealize.ShloMosaic Idealize.ShloMosaic.ValueIdx Idealize.ShloMosaic.Routing

/-! ## Counting the even places -/

/-- The mark of a place: one at an even place, zero at an odd one. -/
def mark (j : Nat) : Nat := if j % 2 = 0 then 1 else 0

/-- The marks below `n` add up to half of `n`, rounded up. -/
theorem sum_mark (n : Nat) : ((List.range n).map mark).sum = (n + 1) / 2 := by
  induction n with
  | zero => rfl
  | succ n ih =>
    rw [List.range_succ, List.map_append, List.sum_append, ih]
    show (n + 1) / 2 + (mark n + 0) = (n + 1 + 1) / 2
    unfold mark
    split <;> omega

/-- The number of even places below `n` is half of `n`, rounded up. -/
theorem count_even (n : Nat) : Nat.count (fun j => j % 2 = 0) n = (n + 1) / 2 := by
  induction n with
  | zero => rfl
  | succ n ih =>
    rw [Nat.count_succ, ih]
    split <;> omega

/-! ## A running sum along the rows of a matrix -/

/-- A running sum along the second axis of an `[R, N]` matrix, read in row `r`, is the running sum of that row alone. -/
theorem rowsum_eq {R N Nm1 : Nat} (x : IVec (shape2 R N) 32) (init : IVec shape0 32)
    (h : (shape2 R N).ReduceWindows (![1, N] : Fin 2 → Nat) ![1, 1] ![0, Nm1] ![0, 0] (shape2 R N))
    (h1 : (shape2 1 N).ReduceWindows (![1, N] : Fin 2 → Nat) ![1, 1] ![0, Nm1] ![0, 0] (shape2 1 N))
    (hu : 0 < shape0.numel) (r : Fin R) (j : Fin N) :
    Host.reduceWindow IntOp.addi ![1, N] ![1, 1] ![0, Nm1] ![0, 0] x init h hu (ix2 r j)
      = Host.reduceWindow IntOp.addi ![1, N] ![1, 1] ![0, Nm1] ![0, 0] (fun i : (shape2 1 N).Idx => x (ix2 r (i 1))) init h1 hu
          (ix2 (0 : Fin 1) j) := by
  unfold Host.reduceWindow
  refine congrArg (fun f => List.foldl f (init (Shape.Idx.first hu)) (List.finRange (shape2 1 N).numel)) ?_
  funext a n
  have hw0 : ((shape2 1 N).rowMajor.symm n 0).val = 0 := by rw [symm2]; rfl
  have hr := r.isLt
  refine congrArg (IntOp.addi a) ?_
  dsimp only
  split
  · next hin =>
    have hin1 := hin 1
    rw [dif_pos (fun b => by
      match b with
      | ⟨0, _⟩ =>
        show 0 ≤ 0 * 1 + ((shape2 1 N).rowMajor.symm n 0).val ∧ 0 * 1 + ((shape2 1 N).rowMajor.symm n 0).val - 0 < 1
        rw [hw0]; omega
      | ⟨1, _⟩ => exact hin1)]
    refine congrArg x (funext fun b => Fin.ext ?_)
    match b with
    | ⟨0, _⟩ =>
      show r.val * 1 + ((shape2 1 N).rowMajor.symm n 0).val - 0 = r.val
      rw [hw0]; omega
    | ⟨1, _⟩ => rfl
  · next hin =>
    rw [dif_neg (fun hin' => hin fun b => by
      match b with
      | ⟨0, _⟩ =>
        show 0 ≤ r.val * 1 + ((shape2 1 N).rowMajor.symm n 0).val ∧ r.val * 1 + ((shape2 1 N).rowMajor.symm n 0).val - 0 < R
        rw [hw0]; omega
      | ⟨1, _⟩ => exact hin' 1)]

/-! ## The reference's integers -/

section
variable (s : IVec S8x4096 32) (hs : ∀ (r : Fin 8) (j : Fin 4096), s (ix2 r j) = BitVec.ofNat 32 (2 + j.val % 2))
include hs

/-- A token starts a word exactly when its place is even. -/
theorem starts (r : Fin 8) (j : Fin 4096) : val_main_v1 (F := Ideal) s (ix2 r j) = BitVec.ofNat 1 (mark j.val) := by
  rw [val_main_v1_apply, val_main_v0_apply, val_main_c_apply, hs]
  unfold mark
  rcases Nat.mod_two_eq_zero_or_one j.val with h | h <;> rw [h] <;> rfl

/-- Every token is in a word. -/
theorem inWord (r : Fin 8) (j : Fin 4096) : val_main_v4 (F := Ideal) s (ix2 r j) = 1#1 := by
  rw [val_main_v4_apply, val_main_v1_apply, val_main_v0_apply, val_main_c_apply, val_main_v3_apply, val_main_v2_apply,
    val_main_c_0_apply, hs]
  rcases Nat.mod_two_eq_zero_or_one j.val with h | h <;> rw [h] <;> rfl

/-- The running sum of the starts of a sequence, at place `j`, is `j / 2 + 1`. -/
theorem running (r : Fin 8) (j : Fin 4096) : val_main_v5 (F := Ideal) s (ix2 r j) = BitVec.ofNat 32 (j.val / 2 + 1) := by
  unfold val_main_v5
  refine (rowsum_eq (R := 8) (N := 4096) (Nm1 := 4095) (val_main_call0_v0 (F := Ideal) s) (val_main_call0_call0_v0 (F := Ideal))
    reduceWindows_S8x4096_S8x4096_w1s1p0_0_w4096s1p4095_0 (by decide) h_S_ r j).trans ?_
  refine (cumsum2 (N := 4096) (Nm1 := 4095) rfl _ mark (fun i => ?_) _ ?_ _ h_S_ j).trans ?_
  · show val_main_call0_v0 (F := Ideal) s (ix2 r i) = _
    rw [val_main_call0_v0_apply, starts s hs]
    unfold mark
    split <;> rfl
  · rw [val_main_call0_call0_v0_apply, val_main_call0_call0_c_apply]
  · rw [sum_mark]
    congr 1
    omega

/-- Each sequence has 2048 words. -/
theorem words (r : Fin 8) : val_main_v9 (F := Ideal) s (ix1 r) = BitVec.ofNat 32 2048 := by
  unfold val_main_v9 val_main_v8
  refine (reduce_count (n := 8) (m := 4096) (by decide) (val_main_v1 (F := Ideal) s) natLt_1_32 reducesTo_S8x4096_S8_d1 h_S_ r
    (fun j => j % 2 = 0) (fun j => ?_)).trans ?_
  · rw [starts s hs]
    unfold mark
    split
    · next h => exact ⟨fun _ => h, fun _ => rfl⟩
    · next h => exact ⟨fun h' => absurd h' (by decide), fun h' => absurd h' h⟩
  · rw [count_even]

/-- The sequences up to and including `r` have `2048 (r + 1)` words. -/
theorem wordsThrough (r : Fin 8) : val_main_v11 (F := Ideal) s (ix1 r) = BitVec.ofNat 32 ((r.val + 1) * 2048) := by
  unfold val_main_v11
  refine (cumsum1 (N := 8) (Nm1 := 7) rfl (val_main_v9 (F := Ideal) s) (fun _ => 2048) (fun i => words s hs i)
    (val_main_call1_call0_v0 (F := Ideal)) ?_ reduceWindows_S8_S8_w8s1p7_0 h_S_ r).trans ?_
  · rw [val_main_call1_call0_v0_apply, val_main_call1_call0_c_apply]
  · simp

/-- The sequences before `r` have `2048 r` words. -/
theorem wordsBefore (r : Fin 8) : val_main_v13 (F := Ideal) s (ix1 r) = BitVec.ofNat 32 (r.val * 2048) := by
  unfold val_main_v13
  have hr := r.isLt
  rcases Nat.eq_zero_or_pos r.val with h | h
  · rw [concatenate_pair_apply_left (s₁ := S1) (s₂ := S7) (t := S8) 0 (val_main_v10 (F := Ideal)) (val_main_v12 (F := Ideal) s)
      concatenates_S1_S7_S8_d0 (ix1 r) rfl (ix1 (0 : Fin 1)) (fun b => by
        match b with
        | ⟨0, _⟩ => exact h.symm),
      val_main_v10_apply, val_main_c_3_apply, h]
  · rw [concatenate_pair_apply_right (s₁ := S1) (s₂ := S7) (t := S8) 0 (val_main_v10 (F := Ideal)) (val_main_v12 (F := Ideal) s)
      concatenates_S1_S7_S8_d0 (ix1 r) rfl rfl (ix1 (⟨r.val - 1, by omega⟩ : Fin 7)) (fun b hb => by
        match b with
        | ⟨0, _⟩ => exact absurd rfl hb) (by show r.val - 1 + 1 = r.val; omega),
      val_main_v12_apply]
    have e : idx_main_v12 (ix1 (⟨r.val - 1, by omega⟩ : Fin 7)) = ix1 (⟨r.val - 1, by omega⟩ : Fin 8) := funext fun b => by
      match b with
      | ⟨0, _⟩ => rfl
    rw [e, wordsThrough s hs]
    congr 2
    show r.val - 1 + 1 = r.val
    omega

/-- The word of a token, before the tokens that are in no word are sent away. -/
theorem wordOf (r : Fin 8) (j : Fin 4096) : val_main_v16 (F := Ideal) s (ix2 r j) = BitVec.ofNat 32 (r.val * 2048 + j.val / 2) := by
  have e : val_main_v13 (F := Ideal) s (idx_main_v14 (idx_main_v15 (ix2 r j))) = BitVec.ofNat 32 (r.val * 2048) := by
    rw [← wordsBefore s hs r]
    exact congrArg _ (funext fun a => by
      match a with
      | ⟨0, _⟩ => rfl)
  rw [val_main_v16_apply, val_main_v7_apply, running s hs, val_main_v6_apply, val_main_c_1_apply, val_main_v15_apply,
    val_main_v14_apply, e]
  show BitVec.ofNat 32 (j.val / 2 + 1) - 1#32 + BitVec.ofNat 32 (r.val * 2048) = _
  rw [BitVec.ofNat_add, BitVec.add_sub_cancel, ← BitVec.ofNat_add, Nat.add_comm]

/-- Token `t` of the batch is in word `t / 2`. -/
theorem word_of_token (t : Fin 32768) : val_main_v21 (F := Ideal) s (ix2 t (0 : Fin 1)) = BitVec.ofNat 32 (t.val / 2) := by
  have e : val_main_v17 (F := Ideal) s (ix2 ⟨t.val / 4096, by omega⟩ ⟨t.val % 4096, by omega⟩)
      = BitVec.ofNat 32 (t.val / 4096 * 2048 + t.val % 4096 / 2) := by
    rw [val_main_v17_apply, inWord s hs, wordOf s hs]
    rfl
  rw [val_main_v21_apply, val_main_v19_apply]
  refine Eq.trans (congrArg (val_main_v17 (F := Ideal) s) (eq_ix2 _)) (e.trans ?_)
  congr 1
  omega

end

end Cert.Proof.SegIds

end
-- ==== Proof.RefValue.lean ====
/- The reference's result, element by element, at the extended reals.

   The reference adds every token's row into the row of its word (a scatter with addition into an array of zeros with one
   spare row), drops the spare row, multiplies by the weights and adds the bias. With token `t` in word `t / 2`
   (Proof/SegIds.lean), row `u` of the scattered array is the sum of tokens `2 u` and `2 u + 1`. -/
module

public import proofs.«01_k».proof.Proof.SegIds
public import proofs.«01_k».proof.Proof.Words
public import Idealize.ShloMosaic.Lib.Routing.OpsPair

@[expose] public section

noncomputable section

namespace Cert.Proof.RefValue

open Cert.ReferenceIdeal Cert.ReferenceIdeal.Gen Cert.ReferenceIdeal.Read Cert.Proof.Words
open Idealize.ShloMosaic Idealize.ShloMosaic.ValueIdx Idealize.ShloMosaic.Routing

/-! ## Where a token's row lands -/

/-- The scatter's dimension numbers, under a short name. -/
abbrev rows := scatter_S16385x768_S32768x1_S32768x768_1_0_0_1

/-- Element `(t, l)` of the tokens lands at `(r, k)` exactly when token `t`'s index, read signed, is `r`, and `l` is `k`. -/
theorem lands (idx : IVec S32768x1 32) (t : Fin 32768) (l : Fin 768) (r : Fin 16385) (k : Fin 768) :
    rows.resultIdx? (ix2 t l) idx = some (ix2 r k) ↔ (idx (ix2 t (0 : Fin 1))).toInt = r.val ∧ l = k := by
  have hs0 : rows.start (ix2 t l) idx 0 = (idx (ix2 t (0 : Fin 1))).toInt := by
    unfold ScatterDims.start
    rw [dif_pos (show (0 : Fin S16385x768.rank) ∈ rows.scatterDimsToOperandDims by decide)]
    refine congrArg (fun i => (idx i).toInt) (funext fun a => Fin.ext ?_)
    match a with
    | ⟨0, _⟩ => rfl
    | ⟨1, _⟩ => rfl
  have hs1 : rows.start (ix2 t l) idx 1 = 0 := by
    unfold ScatterDims.start
    rw [dif_neg (show ¬(1 : Fin S16385x768.rank) ∈ rows.scatterDimsToOperandDims by decide)]
  have hw0 : rows.window (ix2 t l) 0 = 0 := by
    unfold ScatterDims.window
    rw [dif_neg (by decide)]
  have hw1 : rows.window (ix2 t l) 1 = l.val := by
    unfold ScatterDims.window
    rw [dif_pos (by decide)]
    rfl
  refine (resultIdx?_ix2 rows (ix2 t l) idx r k).trans ?_
  rw [hs0, hs1, hw0, hw1, Fin.ext_iff]
  omega

/-- The word `t / 2`, read signed, is `t / 2`. -/
theorem toInt_half (t : Fin 32768) : (BitVec.ofNat 32 (t.val / 2)).toInt = ((t.val / 2 : Nat) : Int) := by
  have ht := t.isLt
  rw [BitVec.toInt_eq_toNat_of_lt (by rw [BitVec.toNat_ofNat, Nat.mod_eq_of_lt (by omega)]; omega), BitVec.toNat_ofNat,
    Nat.mod_eq_of_lt (by omega)]

/-! ## The rows of the words -/

/-- The tokens laid out as rows. -/
theorem tokens (x : FVec Ideal S8x4096x768 .f32) (t : Fin 32768) (k : Fin 768) : val_main_v18 (F := Ideal) x (ix2 t k) = token x t k := by
  rw [val_main_v18_apply]
  refine congrArg x (funext fun a => Fin.ext ?_)
  match a with
  | ⟨0, _⟩ => show (t.val * 768 + k.val) / 3145728 = t.val / 4096; omega
  | ⟨1, _⟩ => show (t.val * 768 + k.val) / 768 % 4096 = t.val % 4096; omega
  | ⟨2, _⟩ => show (t.val * 768 + k.val) % 768 = k.val; omega

section
variable (x : FVec Ideal S8x4096x768 .f32) (w : FVec Ideal S768x9 .f32) (b : FVec Ideal S9 .f32)
variable (s : IVec S8x4096 32) (hs : ∀ (r : Fin 8) (j : Fin 4096), s (ix2 r j) = BitVec.ofNat 32 (2 + j.val % 2))
include hs

/-- The elements that land at coordinate `k` of word `u` are coordinate `k` of its two tokens. -/
theorem landing (u : Fin 16384) (k : Fin 768) :
    (Finset.univ.filter fun j : S32768x768.Idx => rows.resultIdx? j (val_main_v21 (F := Ideal) s) = some (ix2 (⟨u.val, by omega⟩ : Fin 16385) k))
      = {ix2 (first u) k, ix2 (second u) k} := by
  ext j
  obtain ⟨t, l, rfl⟩ : ∃ (t : Fin 32768) (l : Fin 768), j = ix2 t l := ⟨j 0, j 1, eq_ix2 j⟩
  rw [Finset.mem_filter, lands, SegIds.word_of_token s hs, toInt_half, Finset.mem_insert, Finset.mem_singleton]
  have inj (t' : Fin 32768) : (ix2 t l : S32768x768.Idx) = ix2 t' k ↔ t = t' ∧ l = k := by
    constructor
    · intro h; exact ⟨congrFun h 0, congrFun h 1⟩
    · rintro ⟨rfl, rfl⟩; rfl
  rw [inj, inj, Fin.ext_iff (a := t) (b := first u), Fin.ext_iff (a := t) (b := second u), Fin.ext_iff (a := l)]
  simp only [Finset.mem_univ, true_and]
  omega

/-- Row `u` of the scattered array is the sum of the word's two tokens. -/
theorem wordRow (u : Fin 16384) (k : Fin 768) :
    val_main_v23 (F := Ideal) x s (ix2 u k) = token x (first u) k + token x (second u) k := by
  rw [val_main_v23_apply]
  have e : idx_main_v23 (ix2 u k) = ix2 (⟨u.val, by omega⟩ : Fin 16385) k := funext fun a => by
    match a with
    | ⟨0, _⟩ => rfl
    | ⟨1, _⟩ => rfl
  rw [e]
  show val_main_v20 (F := Ideal) _ + ∑ j ∈ Finset.univ.filter (fun j : S32768x768.Idx =>
    rows.resultIdx? j (val_main_v21 (F := Ideal) s) = some (ix2 (⟨u.val, by omega⟩ : Fin 16385) k)), val_main_v18 (F := Ideal) x j = _
  rw [landing s hs, Finset.sum_pair, tokens, tokens, val_main_v20_apply, val_main_cst_apply]
  · show Ideal.ofBits .f32 0x00000000#32 + _ = _
    rw [Ideal.ofBits_zero_f32, zero_add]
  · intro h
    have h0 : 2 * u.val = 2 * u.val + 1 := congrArg Fin.val (congrFun h 0)
    omega

/-- The reference's result at word `u` and label `n`. -/
theorem result_apply (u : Fin 16384) (n : Fin 9) : val_main_v27 (F := Ideal) x w b s (ix2 u n) = sumValue x w b u n := by
  rw [val_main_v27_apply, val_main_v24_apply, val_main_v26_apply, val_main_v25_apply]
  unfold sumValue
  have eb : idx_main_v25 (idx_main_v26 (ix2 u n)) = ix1 n := funext fun a => by
    match a with
    | ⟨0, _⟩ => rfl
  rw [eb]
  refine congrArg (· + (b (ix1 n) : EReal)) (Finset.sum_congr rfl fun k _ => ?_)
  have el : lidx_main_v24 (ix2 u n) k = ix2 u k := funext fun a => by
    match a with
    | ⟨0, _⟩ => rfl
    | ⟨1, _⟩ => rfl
  have er : ridx_main_v24 (ix2 u n) k = ix2 k n := funext fun a => by
    match a with
    | ⟨0, _⟩ => rfl
    | ⟨1, _⟩ => rfl
  rw [el, er, wordRow x s hs]

/-- Where the tokens and the weights are real, the reference's result is the kernel's. -/
theorem result_eq (hx : ∀ i, ∃ r : ℝ, (x i : EReal) = r) (hw : ∀ i, ∃ r : ℝ, (w i : EReal) = r) :
    val_main_v27 (F := Ideal) x w b s = result x w b := by
  funext i
  obtain ⟨u, n, rfl⟩ : ∃ (u : Fin 16384) (n : Fin 9), i = ix2 u n := ⟨i 0, i 1, eq_ix2 i⟩
  exact (result_apply x w b s hs u n).trans (sumValue_eq x w b hx hw u n)

end

end Cert.Proof.RefValue

end
-- ==== Proof.lean ====
/- The certificate's claims, put together.

   The kernel's frames are the generated ones. The reference's comes from its run. For the algebraic claim the kernel ends
   with `Words.result` of its arguments (Proof/KernelValue.lean), and so does the reference (Proof/RefValue.lean) where the
   precondition holds (read in Proof/PreRead.lean). The idealization rewrote no operation. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_words_of_two_finite
public import proofs.«01_k».proof.Proof.Gen.ReferenceIdeal.Run
public import proofs.«01_k».proof.Proof.Gen.ReferenceIdeal.Read
public import proofs.«01_k».proof.Proof.KernelValue
public import proofs.«01_k».proof.Proof.PreRead
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates from any memory, leaves its arguments and ends with every counter at zero. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference, from the same arguments under the precondition, end with the same result. -/
theorem algebraic : Cert.algebraic_KernelIdeal_ReferenceIdeal_pre_words_of_two_finite := fun m ρ m' ρ' hpre hargs => by
  refine ⟨fun c => Words.result (m (c.tc.loc Cert.KernelIdeal.main_arg0)) (m (c.tc.loc Cert.KernelIdeal.main_arg1))
    (m (c.tc.loc Cert.KernelIdeal.main_arg2)), KernelValue.run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3⟩ := hargs c
  rw [h0, h1, h2, h3]
  refine (Cert.ReferenceIdeal.Read.val_main_v27_eq (F := Ideal) _ _ _ _).trans ?_
  obtain ⟨hs, hx, hw⟩ := hpre c
  exact RefValue.result_eq _ _ _ _ (PreRead.source_index _ _ _ _ hs) (PreRead.token_finite _ _ _ _ hx)
    (PreRead.weight_finite _ _ _ _ hw)

/-- Every claim of the certificate. -/
theorem claim : Cert.Claim := ⟨Cert.Kernel.Gen.facts, Cert.KernelIdeal.Gen.facts, Cert.ReferenceIdeal.Gen.facts, Cert.Pre_words_of_two_finite.Gen.facts,
  fun m ρ _ => Cert.Kernel.Gen.frame m ρ, fun m ρ _ => Cert.KernelIdeal.Gen.frame m ρ, fun m ρ _ => Cert.KernelIdeal.Gen.frame m ρ,
  quiescent_reference, fun m ρ _ => quiescent_reference m ρ trivial, trivial, algebraic⟩

end Cert.Proof

end
